-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_net" .f32 0x3AD79436#32 ((608⁻¹ : ℝ) : EReal)
  ∧ IdealRules.named_const.Statement Cert.KernelIdeal.κ "inv_grid" .f32 0x3C579436#32 ((76⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x255x76x76 : Shape := ⟨4, ![32, 255, 76, 76]⟩
abbrev S3x2 : Shape := ⟨2, ![3, 2]⟩
abbrev S76x76x32x255 : Shape := ⟨4, ![76, 76, 32, 255]⟩
abbrev S32x3x5776x85 : Shape := ⟨4, ![32, 3, 5776, 85]⟩
abbrev S4x76x32x255 : Shape := ⟨4, ![4, 76, 32, 255]⟩
abbrev S32x3x304x85 : Shape := ⟨4, ![32, 3, 304, 85]⟩
abbrev S1x1x1x255 : Shape := ⟨4, ![1, 1, 1, 255]⟩
abbrev S1x1 : Shape := ⟨2, ![1, 1]⟩
abbrev S4x76x1x255 : Shape := ⟨4, ![4, 76, 1, 255]⟩
abbrev S4x76x32x85 : Shape := ⟨4, ![4, 76, 32, 85]⟩
abbrev S32x4x76x85 : Shape := ⟨4, ![32, 4, 76, 85]⟩
abbrev S32x304x85 : Shape := ⟨3, ![32, 304, 85]⟩
abbrev S32x1x304x85 : Shape := ⟨4, ![32, 1, 304, 85]⟩
abbrev S32x17328x85 : Shape := ⟨3, ![32, 17328, 85]⟩

abbrev nBuf : Space → Nat
  | .hbm => 5
  | .vmem => 4
  | .smem => 1
  | _ => 0

abbrev bufTy : (tb : Table) → Fin (tcTables nBuf tb) → BufTy
  | .hbm, ⟨0, _⟩ => ⟨S32x255x76x76, .f32⟩
  | .hbm, ⟨1, _⟩ => ⟨S3x2, .f32⟩
  | .hbm, ⟨2, _⟩ => ⟨S76x76x32x255, .f32⟩
  | .hbm, ⟨3, _⟩ => ⟨S32x3x5776x85, .f32⟩
  | .hbm, ⟨4, _⟩ => ⟨S32x17328x85, .f32⟩
  | .local _ .vmem, ⟨0, _⟩ => ⟨S4x76x32x255, .f32⟩
  | .local _ .vmem, ⟨1, _⟩ => ⟨S4x76x32x255, .f32⟩
  | .local _ .vmem, ⟨2, _⟩ => ⟨S32x3x304x85, .f32⟩
  | .local _ .vmem, ⟨3, _⟩ => ⟨S32x3x304x85, .f32⟩
  | .local _ .smem, ⟨0, _⟩ => ⟨S3x2, .f32⟩
  | _, _ => ⟨S32x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .smem S3x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x76x32x255 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3x304x85 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_grid" => some ((76⁻¹ : ℝ) : EReal)
  | "inv_net" => some ((608⁻¹ : ℝ) : EReal)
  | _ => none
-- ==== ReferenceIdeal.lean ====
abbrev S32x255x76x76 : Shape := ⟨4, ![32, 255, 76, 76]⟩
abbrev S3x2 : Shape := ⟨2, ![3, 2]⟩
abbrev S32x3x85x76x76 : Shape := ⟨5, ![32, 3, 85, 76, 76]⟩
abbrev S32x3x76x76x85 : Shape := ⟨5, ![32, 3, 76, 76, 85]⟩
abbrev S32x3x76x76x1 : Shape := ⟨5, ![32, 3, 76, 76, 1]⟩
abbrev S32x3x76x76 : Shape := ⟨4, ![32, 3, 76, 76]⟩
abbrev S_ : Shape := ⟨0, ![]⟩
abbrev S32x3x76x76x80 : Shape := ⟨5, ![32, 3, 76, 76, 80]⟩
abbrev S76 : Shape := ⟨1, ![76]⟩
abbrev S76x1 : Shape := ⟨2, ![76, 1]⟩
abbrev S1x1x1x76 : Shape := ⟨4, ![1, 1, 1, 76]⟩
abbrev S1x1x76x1 : Shape := ⟨4, ![1, 1, 76, 1]⟩
abbrev S3x1 : Shape := ⟨2, ![3, 1]⟩
abbrev S3 : Shape := ⟨1, ![3]⟩
abbrev S1x3x1x1 : Shape := ⟨4, ![1, 3, 1, 1]⟩
abbrev S32x3x76x76x4 : Shape := ⟨5, ![32, 3, 76, 76, 4]⟩
abbrev S32x17328x4 : Shape := ⟨3, ![32, 17328, 4]⟩
abbrev S32x17328x1 : Shape := ⟨3, ![32, 17328, 1]⟩
abbrev S32x17328x80 : Shape := ⟨3, ![32, 17328, 80]⟩
abbrev S32x17328x85 : Shape := ⟨3, ![32, 17328, 85]⟩

abbrev nBuf : Space → Nat
  | .hbm => 89
  | .vmem => 0
  | .smem => 0
  | _ => 0

abbrev bufTy : (tb : Table) → Fin (tcTables nBuf tb) → BufTy
  | .hbm, ⟨0, _⟩ => ⟨S32x255x76x76, .f32⟩
  | .hbm, ⟨1, _⟩ => ⟨S3x2, .f32⟩
  | .hbm, ⟨2, _⟩ => ⟨S32x3x85x76x76, .f32⟩
  | .hbm, ⟨3, _⟩ => ⟨S32x3x76x76x85, .f32⟩
  | .hbm, ⟨4, _⟩ => ⟨S32x3x76x76x1, .f32⟩
  | .hbm, ⟨5, _⟩ => ⟨S32x3x76x76, .f32⟩
  | .hbm, ⟨6, _⟩ => ⟨S32x3x76x76, .f32⟩
  | .hbm, ⟨7, _⟩ => ⟨S32x3x76x76, .f32⟩
  | .hbm, ⟨8, _⟩ => ⟨S_, .f32⟩
  | .hbm, ⟨9, _⟩ => ⟨S32x3x76x76, .f32⟩
  | .hbm, ⟨10, _⟩ => ⟨S32x3x76x76, .f32⟩
  | .hbm, ⟨11, _⟩ => ⟨S_, .f32⟩
  | .hbm, ⟨12, _⟩ => ⟨S32x3x76x76, .f32⟩
  | .hbm, ⟨13, _⟩ => ⟨S32x3x76x76, .f32⟩
  | .hbm, ⟨14, _⟩ => ⟨S32x3x76x76x1, .f32⟩
  | .hbm, ⟨15, _⟩ => ⟨S32x3x76x76, .f32⟩
  | .hbm, ⟨16, _⟩ => ⟨S32x3x76x76, .f32⟩
  | .hbm, ⟨17, _⟩ => ⟨S32x3x76x76, .f32⟩
  | .hbm, ⟨18, _⟩ => ⟨S_, .f32⟩
  | .hbm, ⟨19, _⟩ => ⟨S32x3x76x76, .f32⟩
  | .hbm, ⟨20, _⟩ => ⟨S32x3x76x76, .f32⟩
  | .hbm, ⟨21, _⟩ => ⟨S_, .f32⟩
  | .hbm, ⟨22, _⟩ => ⟨S32x3x76x76, .f32⟩
  | .hbm, ⟨23, _⟩ => ⟨S32x3x76x76, .f32⟩
  | .hbm, ⟨24, _⟩ => ⟨S32x3x76x76x1, .f32⟩
  | .hbm, ⟨25, _⟩ => ⟨S32x3x76x76, .f32⟩
  | .hbm, ⟨26, _⟩ => ⟨S32x3x76x76x1, .f32⟩
  | .hbm, ⟨27, _⟩ => ⟨S32x3x76x76, .f32⟩
  | .hbm, ⟨28, _⟩ => ⟨S32x3x76x76x1, .f32⟩
  | .hbm, ⟨29, _⟩ => ⟨S32x3x76x76, .f32⟩
  | .hbm, ⟨30, _⟩ => ⟨S32x3x76x76, .f32⟩
  | .hbm, ⟨31, _⟩ => ⟨S32x3x76x76, .f32⟩
  | .hbm, ⟨32, _⟩ => ⟨S_, .f32⟩
  | .hbm, ⟨33, _⟩ => ⟨S32x3x76x76, .f32⟩
  | .hbm, ⟨34, _⟩ => ⟨S32x3x76x76, .f32⟩
  | .hbm, ⟨35, _⟩ => ⟨S_, .f32⟩
  | .hbm, ⟨36, _⟩ => ⟨S32x3x76x76, .f32⟩
  | .hbm, ⟨37, _⟩ => ⟨S32x3x76x76, .f32⟩
  | .hbm, ⟨38, _⟩ => ⟨S32x3x76x76x80, .f32⟩
  | .hbm, ⟨39, _⟩ => ⟨S32x3x76x76x80, .f32⟩
  | .hbm, ⟨40, _⟩ => ⟨S32x3x76x76x80, .f32⟩
  | .hbm, ⟨41, _⟩ => ⟨S_, .f32⟩
  | .hbm, ⟨42, _⟩ => ⟨S32x3x76x76x80, .f32⟩
  | .hbm, ⟨43, _⟩ => ⟨S32x3x76x76x80, .f32⟩
  | .hbm, ⟨44, _⟩ => ⟨S_, .f32⟩
  | .hbm, ⟨45, _⟩ => ⟨S32x3x76x76x80, .f32⟩
  | .hbm, ⟨46, _⟩ => ⟨S32x3x76x76x80, .f32⟩
  | .hbm, ⟨47, _⟩ => ⟨S76, .f32⟩
  | .hbm, ⟨48, _⟩ => ⟨S76, .f32⟩
  | .hbm, ⟨49, _⟩ => ⟨S76x1, .f32⟩
  | .hbm, ⟨50, _⟩ => ⟨S1x1x1x76, .f32⟩
  | .hbm, ⟨51, _⟩ => ⟨S32x3x76x76, .f32⟩
  | .hbm, ⟨52, _⟩ => ⟨S32x3x76x76, .f32⟩
  | .hbm, ⟨53, _⟩ => ⟨S_, .f32⟩
  | .hbm, ⟨54, _⟩ => ⟨S32x3x76x76, .f32⟩
  | .hbm, ⟨55, _⟩ => ⟨S32x3x76x76, .f32⟩
  | .hbm, ⟨56, _⟩ => ⟨S1x1x76x1, .f32⟩
  | .hbm, ⟨57, _⟩ => ⟨S32x3x76x76, .f32⟩
  | .hbm, ⟨58, _⟩ => ⟨S32x3x76x76, .f32⟩
  | .hbm, ⟨59, _⟩ => ⟨S_, .f32⟩
  | .hbm, ⟨60, _⟩ => ⟨S32x3x76x76, .f32⟩
  | .hbm, ⟨61, _⟩ => ⟨S32x3x76x76, .f32⟩
  | .hbm, ⟨62, _⟩ => ⟨S3x1, .f32⟩
  | .hbm, ⟨63, _⟩ => ⟨S3, .f32⟩
  | .hbm, ⟨64, _⟩ => ⟨S1x3x1x1, .f32⟩
  | .hbm, ⟨65, _⟩ => ⟨S3x1, .f32⟩
  | .hbm, ⟨66, _⟩ => ⟨S3, .f32⟩
  | .hbm, ⟨67, _⟩ => ⟨S1x3x1x1, .f32⟩
  | .hbm, ⟨68, _⟩ => ⟨S32x3x76x76, .f32⟩
  | .hbm, ⟨69, _⟩ => ⟨S32x3x76x76, .f32⟩
  | .hbm, ⟨70, _⟩ => ⟨S32x3x76x76, .f32⟩
  | .hbm, ⟨71, _⟩ => ⟨S_, .f32⟩
  | .hbm, ⟨72, _⟩ => ⟨S32x3x76x76, .f32⟩
  | .hbm, ⟨73, _⟩ => ⟨S32x3x76x76, .f32⟩
  | .hbm, ⟨74, _⟩ => ⟨S32x3x76x76, .f32⟩
  | .hbm, ⟨75, _⟩ => ⟨S32x3x76x76, .f32⟩
  | .hbm, ⟨76, _⟩ => ⟨S32x3x76x76, .f32⟩
  | .hbm, ⟨77, _⟩ => ⟨S_, .f32⟩
  | .hbm, ⟨78, _⟩ => ⟨S32x3x76x76, .f32⟩
  | .hbm, ⟨79, _⟩ => ⟨S32x3x76x76, .f32⟩
  | .hbm, ⟨80, _⟩ => ⟨S32x3x76x76x1, .f32⟩
  | .hbm, ⟨81, _⟩ => ⟨S32x3x76x76x1, .f32⟩
  | .hbm, ⟨82, _⟩ => ⟨S32x3x76x76x1, .f32⟩
  | .hbm, ⟨83, _⟩ => ⟨S32x3x76x76x1, .f32⟩
  | .hbm, ⟨84, _⟩ => ⟨S32x3x76x76x4, .f32⟩
  | .hbm, ⟨85, _⟩ => ⟨S32x17328x4, .f32⟩
  | .hbm, ⟨86, _⟩ => ⟨S32x17328x1, .f32⟩
  | .hbm, ⟨87, _⟩ => ⟨S32x17328x80, .f32⟩
  | .hbm, ⟨88, _⟩ => ⟨S32x17328x85, .f32⟩
  | _, _ => ⟨S32x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_9 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_10 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩

abbrev nD : Nat := 1
abbrev τ : Topo := Topo.v7x

variable {F : FTy → Type} [FloatOps F]
-- ==== Proof.Scalars.lean ====
/- Hand-written, untrusted: THE SCALARS OF THE TWO PROGRAMS on the extended reals. The kernel writes the sigmoid as
   `tanh (x / 2) / 2 + 1 / 2`, the reference as `1 / (1 + exp (-x))` (`sigmoid_eq`, the infinities included); the float
   literals denote the reals `1 / 2`, `1`, `76` and `608`; the two named constants denote `1 / 76` and `1 / 608`. Last is
   the one scalar function both programs compute at each place of the result (`decoded`). -/
module

public import proofs.«01_k».proof.Defs
public import Idealize.ShloMosaic.Lib.Pointwise

@[expose] public section

noncomputable section

namespace Cert.Proof.Scalars

open Idealize.ShloMosaic

/-- The logistic function: one over one plus the exponential of the negated argument, zero and one at the infinities. -/
def sigmoid (x : EReal) : EReal := Ideal.div 1 (1 + Ideal.exp (-x))

/-- The logistic function of a real is the real logistic function. -/
theorem sigmoid_coe (r : ℝ) : sigmoid (r : EReal) = ((1 / (1 + Real.exp (-r)) : ℝ) : EReal) := by
  have hpos : (1 + Real.exp (-r) : ℝ) ≠ 0 := by positivity
  have hsum : (1 : EReal) + Ideal.exp (-(r : EReal)) = ((1 + Real.exp (-r) : ℝ) : EReal) := by
    rw [← EReal.coe_neg, Ideal.exp_coe, EReal.coe_add, EReal.coe_one]
  rw [sigmoid, hsum, Ideal.div_coe hpos, one_mul]

/-- On the reals, half the hyperbolic tangent of half the argument, plus a half, is the logistic function. -/
theorem tanh_half_real (r : ℝ) : Real.tanh (r * (1 / 2)) * (1 / 2) + 1 / 2 = 1 / (1 + Real.exp (-r)) := by
  have hsplit : Real.exp (-r) = Real.exp (-(r * (1 / 2))) * Real.exp (-(r * (1 / 2))) := by
    rw [← Real.exp_add]; congr 1; ring
  have hinv : Real.exp (r * (1 / 2)) * Real.exp (-(r * (1 / 2))) = 1 := by
    rw [← Real.exp_add]; simp
  have hp := Real.exp_pos (r * (1 / 2))
  have hq := Real.exp_pos (-(r * (1 / 2)))
  rw [Real.tanh_eq_sinh_div_cosh, Real.sinh_eq, Real.cosh_eq, hsplit]
  generalize Real.exp (r * (1 / 2)) = p at *
  generalize Real.exp (-(r * (1 / 2))) = q at *
  have h1 : (p + q) ≠ 0 := by positivity
  have h2 : (1 + q * q) ≠ 0 := by positivity
  field_simp
  linear_combination 2 * q * hinv

/-- The kernel's form of the logistic function is the logistic function, at the two infinities too. -/
theorem sigmoid_eq (x : EReal) :
    Ideal.tanh (x * ((1 / 2 : ℝ) : EReal)) * ((1 / 2 : ℝ) : EReal) + ((1 / 2 : ℝ) : EReal) = sigmoid x := by
  induction x with
  | bot =>
    rw [EReal.bot_mul_coe_of_pos (by norm_num), Ideal.tanh_bot, sigmoid, EReal.neg_bot, Ideal.exp_top]
    rw [show (1 : EReal) + ⊤ = ⊤ from rfl, Ideal.div, if_neg (by simp), EReal.inv_top, mul_zero,
      show (-1 : EReal) = ((-1 : ℝ) : EReal) from by simp, ← EReal.coe_mul, ← EReal.coe_add]
    norm_num
  | top =>
    rw [EReal.top_mul_coe_of_pos (by norm_num), Ideal.tanh_top, sigmoid, EReal.neg_top, Ideal.exp_bot, add_zero, one_mul,
      ← EReal.coe_add, show (1 : EReal) = ((1 : ℝ) : EReal) from rfl, Ideal.div_coe one_ne_zero, ← EReal.coe_mul]
    norm_num
  | coe r =>
    rw [sigmoid_coe, ← EReal.coe_mul, Ideal.tanh_coe, ← EReal.coe_mul, ← EReal.coe_add, tanh_half_real]

/-- The float literal `0.5` denotes one half. -/
theorem lit_half : Ideal.ofBits .f32 0x3F000000#32 = ((1 / 2 : ℝ) : EReal) := by
  simp [Ideal.ofBits, Ideal.ieee, -EReal.coe_mul]; norm_num

/-- The float literal `1.0` denotes one. -/
theorem lit_one : Ideal.ofBits .f32 0x3F800000#32 = 1 := by
  simp [Ideal.ofBits, Ideal.ieee, -EReal.coe_mul]; norm_num

/-- The float literal `76.0` denotes 76. -/
theorem lit_grid : Ideal.ofBits .f32 0x42980000#32 = ((76 : ℝ) : EReal) := by
  simp [Ideal.ofBits, Ideal.ieee, -EReal.coe_mul]; norm_num

/-- The float literal `608.0` denotes 608. -/
theorem lit_net : Ideal.ofBits .f32 0x44180000#32 = ((608 : ℝ) : EReal) := by
  simp [Ideal.ofBits, Ideal.ieee, -EReal.coe_mul]; norm_num

/-- The kernel's constant named `inv_net` denotes one over 608. -/
theorem named_net :
    Named.named (F := Ideal) Cert.KernelIdeal.κ "inv_net" (φ := .f32) 0x3AD79436#32 = (((608 : ℝ)⁻¹ : ℝ) : EReal) :=
  IdealRules.named_const.ideal_named_scalar _ _ _ _ rfl

/-- The kernel's constant named `inv_grid` denotes one over 76. -/
theorem named_grid :
    Named.named (F := Ideal) Cert.KernelIdeal.κ "inv_grid" (φ := .f32) 0x3C579436#32 = (((76 : ℝ)⁻¹ : ℝ) : EReal) :=
  IdealRules.named_const.ideal_named_scalar _ _ _ _ rfl

/-- Division by 76 is multiplication by its inverse. -/
theorem div_grid (x : EReal) : Ideal.div x ((76 : ℝ) : EReal) = x * (((76 : ℝ)⁻¹ : ℝ) : EReal) := by
  rw [Ideal.div_coe (by norm_num), one_div]

/-- Division by 608 is multiplication by its inverse. -/
theorem div_net (x : EReal) : Ideal.div x ((608 : ℝ) : EReal) = x * (((608 : ℝ)⁻¹ : ℝ) : EReal) := by
  rw [Ideal.div_coe (by norm_num), one_div]

/-- What stands at channel `c` of a decoded box, of the raw value `x` at column `w` and row `h` of the grid, for an anchor
    of width `aw` and height `ah`: channels 0 and 1 are the centre, the sigmoid plus the column or row, over the grid's
    extent; 2 and 3 are the size, the exponential times the anchor, over the image's extent; the others are the sigmoid. -/
def decoded (c w h : ℕ) (x aw ah : EReal) : EReal :=
  if c = 0 then (((w : ℝ) : EReal) + sigmoid x) * (((76 : ℝ)⁻¹ : ℝ) : EReal)
  else if c = 1 then (((h : ℝ) : EReal) + sigmoid x) * (((76 : ℝ)⁻¹ : ℝ) : EReal)
  else if c = 2 then Ideal.exp x * aw * (((608 : ℝ)⁻¹ : ℝ) : EReal)
  else if c = 3 then Ideal.exp x * ah * (((608 : ℝ)⁻¹ : ℝ) : EReal)
  else sigmoid x

end Cert.Proof.Scalars

end
-- ==== Proof.Lanes.lean ====
/- Hand-written, untrusted: THE DECODED BLOCK AT A LANE. The kernel holds the three anchors of one grid cell in 255 lanes,
   lane `85 a + c` being channel `c` of anchor `a`. It finds `c` and `a` by integer arithmetic on the lane's number
   (`channel_lane`, `anchor_lane`, each decided over the lanes), and chooses by them among the anchor words, the scales and
   the two formulas. `decoded_block` puts these together: the block at a place is the scalar `decoded` of the raw value
   there. -/
module

public import proofs.«01_k».proof.Proof.Gen.KernelIdeal.Skeleton
public import proofs.«01_k».proof.Proof.Scalars

@[expose] public section

noncomputable section

namespace Cert.Proof.Lanes

open Idealize.ShloMosaic Cert.KernelIdeal Cert.KernelIdeal.Gen Cert.Proof.Scalars

/-! ## The integers of a lane -/

/-- The channel the kernel computes for a lane is the lane's number modulo 85. -/
theorem channel_lane : ∀ l : Fin 255, k0_pay4 (ix4 0 0 0 l) = BitVec.ofNat 32 (l.val % 85) := by decide +kernel

/-- The anchor the kernel computes for a lane is the lane's number divided by 85. -/
theorem anchor_lane : ∀ l : Fin 255,
    Scalar.select (k0_pay6 (ix4 0 0 0 l)) (k0_pay7 (ix4 0 0 0 l)) (k0_pay5 (ix4 0 0 0 l)) = BitVec.ofNat 32 (l.val / 85) := by
  decide +kernel

/-- The mask of the size channels is set at channel 2 and at channel 3. -/
theorem size_lane : ∀ l : Fin 255,
    k0_pay8 k0_pay4 (ix4 0 0 0 l) = if l.val % 85 = 2 ∨ l.val % 85 = 3 then 1#1 else 0#1 := by decide +kernel

/-- Comparing a channel's word with the words of 0, 1 and 2 compares the numbers, for equality and, with 2, for order. -/
theorem channel_word : ∀ c : Fin 85,
    IntOp.cmpi .eq (BitVec.ofNat 32 c.val) 0#32 = (if c.val = 0 then 1#1 else 0#1)
    ∧ IntOp.cmpi .eq (BitVec.ofNat 32 c.val) 1#32 = (if c.val = 1 then 1#1 else 0#1)
    ∧ IntOp.cmpi .eq (BitVec.ofNat 32 c.val) 2#32 = (if c.val = 2 then 1#1 else 0#1)
    ∧ IntOp.cmpi .slt (BitVec.ofNat 32 c.val) 2#32 = (if c.val < 2 then 1#1 else 0#1) := by
  decide +kernel

/-- A column's word, read as a signed number, is the column. -/
theorem column_toInt : ∀ w : Fin 76, (BitVec.ofNat 32 w.val).toInt = (w.val : ℤ) := by decide +kernel

/-- The word of row `r` of the four rows of grid point `p`, read as a signed number, is `4 p + r`. -/
theorem row_toInt : ∀ (p : Fin 19) (r : Fin 4),
    (IntOp.addi (Scalar.muli (BitVec.ofNat 32 p.val) 4#32) (BitVec.ofNat 32 r.val)).toInt = ((4 * p.val + r.val : ℕ) : ℤ) := by
  decide +kernel

/-! ## The choices of a lane -/

/-- A flag widened to a word and read as a float is one where the flag is set and zero where it is not. -/
theorem flag_float (q : Prop) [Decidable q] :
    FloatOps.sitofp (F := Ideal) .f32 (BitVec.setWidth 32 (if q then 1#1 else 0#1)) = if q then (1 : EReal) else 0 := by
  split
  · show (((BitVec.setWidth 32 1#1).toInt : ℝ) : EReal) = 1
    simp
  · show (((BitVec.setWidth 32 0#1).toInt : ℝ) : EReal) = 0
    simp

/-- A column's word read as a float is the column. -/
theorem column_float (w : Fin 76) :
    FloatOps.sitofp (F := Ideal) .f32 (BitVec.ofNat 32 w.val) = ((w.val : ℝ) : EReal) := by
  show (((BitVec.ofNat 32 w.val).toInt : ℝ) : EReal) = _
  rw [column_toInt]; simp

/-- A row's word read as a float is the row. -/
theorem row_float (p : Fin 19) (r : Fin 4) :
    FloatOps.sitofp (F := Ideal) .f32 (IntOp.addi (Scalar.muli (BitVec.ofNat 32 p.val) 4#32) (BitVec.ofNat 32 r.val))
      = (((4 * p.val + r.val : ℕ) : ℝ) : EReal) := by
  show (((IntOp.addi (Scalar.muli (BitVec.ofNat 32 p.val) 4#32) (BitVec.ofNat 32 r.val)).toInt : ℝ) : EReal) = _
  rw [row_toInt]; simp

/-- A choice by a flag is the choice by what the flag says. -/
theorem select_flag {α : Type} (q : Prop) [Decidable q] (x y : α) :
    Scalar.select (if q then 1#1 else 0#1) x y = if q then x else y := by
  split <;> rfl

/-- The anchor word of a lane, scaled: the width of the lane's anchor at channel 2, its height elsewhere, over 608. -/
theorem anchor_word (A : FVec Ideal S3x2 .f32) (a : Fin 3) (c : Fin 85) (l : Fin 255) (hl : l.val = 85 * a.val + c.val) :
    k0_pay9 (F := Ideal) k0_pay4 k0_pay5 k0_pay6 k0_pay7 (A (ix2 0 0)) (A (ix2 0 1)) (A (ix2 1 0)) (A (ix2 1 1))
        (A (ix2 2 0)) (A (ix2 2 1)) (ix4 0 0 0 l)
      = (if c.val = 2 then A (ix2 a 0) else A (ix2 a 1)) * (((608 : ℝ)⁻¹ : ℝ) : EReal) := by
  have hc : l.val % 85 = c.val := by omega
  have ha : l.val / 85 = a.val := by omega
  pointwise [k0_pay9]
  rw [channel_lane, anchor_lane, hc, ha, named_net, (channel_word c).2.2.1]
  simp only [select_flag]
  fin_cases a <;> rfl

/-- THE DECODED BLOCK of grid point `p` at row `r`, column `w`, batch member `b` and lane `85 a + c`: the scalar `decoded`
    of channel `c`, column `w` and row `4 p + r`, of the raw value there and of anchor `a`. At the size channels the grid
    offset and the scale are not taken; at the channels past them the offset is zero and the scale one. -/
theorem decoded_block (A : FVec Ideal S3x2 .f32) (x : FVec Ideal S4x76x32x255 .f32) (p : Fin 19) (a : Fin 3) (c : Fin 85)
    (r : Fin 4) (w : Fin 76) (b : Fin 32) (l : Fin 255) (hl : l.val = 85 * a.val + c.val) :
    k0_pay12 (BitVec.ofNat 32 p.val) (k0_pay3 x) k0_pay4 (k0_pay8 k0_pay4)
        (k0_pay9 (F := Ideal) k0_pay4 k0_pay5 k0_pay6 k0_pay7 (A (ix2 0 0)) (A (ix2 0 1)) (A (ix2 1 0)) (A (ix2 1 1))
          (A (ix2 2 0)) (A (ix2 2 1)))
        (k0_pay10 k0_pay4) (k0_pay11 k0_pay4) (ix4 r w b l)
      = decoded c.val w.val (4 * p.val + r.val) (x (ix4 r w b l)) (A (ix2 a 0)) (A (ix2 a 1)) := by
  have hc : l.val % 85 = c.val := by omega
  have hm := size_lane l
  have hw := anchor_word A a c l hl
  obtain ⟨h0, h1, -, h3⟩ := channel_word c
  rw [hc] at hm
  generalize k0_pay8 k0_pay4 = m at *
  generalize k0_pay9 (F := Ideal) k0_pay4 k0_pay5 k0_pay6 k0_pay7 _ _ _ _ _ _ = g at *
  pointwise [k0_pay12, k0_pay10, k0_pay11, k0_pay3]
  rw [hm, hw, lit_half, sigmoid_eq, named_grid, channel_lane, hc, h0, h1, h3, column_float, row_float]
  simp only [select_flag, flag_float]
  unfold decoded
  by_cases c0 : c.val = 0
  · simp [c0, add_comm]
  by_cases c1 : c.val = 1
  · simp [c1, add_comm]
  by_cases c2 : c.val = 2
  · simp [c2, mul_assoc]
  by_cases c3 : c.val = 3
  · simp [c3, mul_assoc]
  have c4 : ¬ c.val < 2 := by omega
  simp [c0, c1, c2, c3, c4]

end Cert.Proof.Lanes

end
-- ==== Proof.Array.lean ====
/- Hand-written, untrusted: THE ARRAY THE PIPELINE LEAVES. Each of the 19 grid points fills one block of four grid rows,
   for all batch members, anchors and channels, with decoded boxes (`Lanes.decoded_block`); the blocks fill the array, so
   what the pipeline leaves is one function of the two arguments, `boxes`. -/
module

public import proofs.«01_k».proof.Proof.Gen.KernelIdeal.Frame
public import proofs.«01_k».proof.Proof.Lanes
public import Idealize.ShloMosaic.Lib.Pipeline.ValueKit

@[expose] public section

set_option maxRecDepth 16384

noncomputable section

namespace Cert.Proof.Array

open Idealize.ShloMosaic Idealize.ShloMosaic.TcCoe Idealize.SL.Sem Cert.KernelIdeal Cert.KernelIdeal.Gen Cert.Proof.Scalars Cert.Proof.Lanes

/-- THE RESULT BY ANCHOR: the decoded boxes as a function of the raw array and the anchors, at batch member, anchor, grid
    cell (row times 76 plus column) and channel. -/
def boxes (X : FVec Ideal S32x255x76x76 .f32) (A : FVec Ideal S3x2 .f32) : FVec Ideal S32x3x5776x85 .f32 := fun i =>
  decoded (i 3).val ((i 2).val % 76) ((i 2).val / 76)
    (X (ix4 (i 0) ⟨85 * (i 1).val + (i 3).val, by have := (i 1).isLt; have := (i 3).isLt; simp at *; omega⟩
      ⟨(i 2).val / 76, by have := (i 2).isLt; simp at *; omega⟩ ⟨(i 2).val % 76, by omega⟩))
    (A (ix2 (i 1) 0)) (A (ix2 (i 1) 1))

/-- The decoded boxes at an index, given the batch member, the anchor, the row, the column and the channels it stands for. -/
theorem boxes_apply (X : FVec Ideal S32x255x76x76 .f32) (A : FVec Ideal S3x2 .f32) (i : S32x3x5776x85.Idx) (b : Fin 32)
    (a : Fin 3) (h w : Fin 76) (ch : Fin 85) (l : Fin 255) (h0 : (i 0).val = b.val) (h1 : (i 1).val = a.val)
    (h2 : (i 2).val = 76 * h.val + w.val) (h3 : (i 3).val = ch.val) (hl : l.val = 85 * a.val + ch.val) :
    boxes X A i = decoded ch.val w.val h.val (X (ix4 b l h w)) (A (ix2 a 0)) (A (ix2 a 1)) := by
  have hw : (i 2).val % 76 = w.val := by omega
  have hh : (i 2).val / 76 = h.val := by omega
  have e0 : (i 0 : Fin 32) = b := Fin.ext h0
  have e1 : (i 1 : Fin 3) = a := Fin.ext h1
  have eX : X (ix4 (i 0) ⟨85 * (i 1).val + (i 3).val, by have := (i 1).isLt; have := (i 3).isLt; simp at *; omega⟩
      ⟨(i 2).val / 76, by have := (i 2).isLt; simp at *; omega⟩ ⟨(i 2).val % 76, by omega⟩) = X (ix4 b l h w) := by
    congr 2
    · exact Fin.ext (by show 85 * (i 1).val + (i 3).val = l.val; omega)
    · exact Fin.ext hh
    · exact Fin.ext hw
  have eA : ∀ k : Fin 2, A (ix2 (i 1) k) = A (ix2 a k) := fun k => congrArg (fun u => A (ix2 u k)) e1
  unfold boxes
  rw [eX, eA, eA, h3, hw, hh]

variable (m : (ℓ : Loc nD τ sig) → Buf (Elt Ideal) ℓ)

/-- Which block each window is at, per grid point: the anchors whole, the raw array and the result at the point's rows. -/
theorem idx : ∀ t : Fin cfg0.N, win0_0.index t = ![0, 0] ∧ win0_1.index t = ![(grid0.coords t 0).val, 0, 0, 0]
    ∧ win0_2.index t = ![0, 0, (grid0.coords t 0).val, 0] :=
  (by decide +kernel : ∀ t : Fin grid0.N, _)

/-- The anchors' block, at every grid point, is the anchors. -/
theorem block_anchors (c : Dev nD) (t : Fin cfg0.N) : iblk m c 0 t = m ((c : Thread nD τ).loc main_arg1) := by
  obtain ⟨e0, -, -⟩ := idx t
  funext j
  blk_ext [iblk, V, e0]

/-- The array the pipeline reads is the raw argument with its two grid axes first. -/
theorem transposed (c : Dev nD) (h w : Fin 76) (b : Fin 32) (l : Fin 255) :
    V m c main_v0 (ix4 h w b l) = m ((c : Thread nD τ).loc main_arg0) (ix4 b l h w) := by
  show StableHlo.after [hostOps0].flatten (fun b => m (c, b)) (Proc.tc.devRef main_v0) (ix4 h w b l) = _
  simp only [hostOps0, List.flatten_cons, List.flatten_nil, List.append_nil]
  after_results_simp
  pointwise

/-- The raw array's block at a grid point: the raw argument at the point's four rows. -/
theorem block_raw (c : Dev nD) (t : Fin cfg0.N) (r : Fin 4) (w : Fin 76) (b : Fin 32) (l : Fin 255) (h : Fin 76)
    (hh : h.val = 4 * (grid0.coords t 0).val + r.val) :
    iblk m c 1 t (ix4 r w b l) = m ((c : Thread nD τ).loc main_arg0) (ix4 b l h w) := by
  obtain ⟨-, e1, -⟩ := idx t
  rw [← transposed m]
  blk_ext [iblk, e1]

/-- The six one-word reads of the anchors are the anchors' six words. -/
theorem word (A : Vec Ideal S3x2 .f32) (k : 0 < S1x1.numel) :
    View.ld (Val := Elt Ideal) A (Rect.unit (s := S3x2) ![0, 0] S1x1.size inb_S3x2_S1x1_0_0) (Shape.Idx.first k) = A (ix2 0 0)
    ∧ View.ld (Val := Elt Ideal) A (Rect.unit (s := S3x2) ![0, 1] S1x1.size inb_S3x2_S1x1_0_1) (Shape.Idx.first k) = A (ix2 0 1)
    ∧ View.ld (Val := Elt Ideal) A (Rect.unit (s := S3x2) ![1, 0] S1x1.size inb_S3x2_S1x1_1_0) (Shape.Idx.first k) = A (ix2 1 0)
    ∧ View.ld (Val := Elt Ideal) A (Rect.unit (s := S3x2) ![1, 1] S1x1.size inb_S3x2_S1x1_1_1) (Shape.Idx.first k) = A (ix2 1 1)
    ∧ View.ld (Val := Elt Ideal) A (Rect.unit (s := S3x2) ![2, 0] S1x1.size inb_S3x2_S1x1_2_0) (Shape.Idx.first k) = A (ix2 2 0)
    ∧ View.ld (Val := Elt Ideal) A (Rect.unit (s := S3x2) ![2, 1] S1x1.size inb_S3x2_S1x1_2_1) (Shape.Idx.first k) = A (ix2 2 1) := by
  refine ⟨?_, ?_, ?_, ?_, ?_, ?_⟩ <;> exact congrArg A (funext fun a => by fin_cases a <;> rfl)

/-- What the pipeline leaves in the result's array: the decoded boxes of the two arguments. -/
theorem result_array (c : Dev nD) : (dats m 0 c).arrAt 2 cfg0.N
    = boxes (m ((c : Thread nD τ).loc main_arg0)) (m ((c : Thread nD τ).loc main_arg1)) := by
  refine (dats m 0 c).arrAt_eq_of_covers 2 _ (by decide +kernel) fun t hf y => ?_
  obtain ⟨-, -, e2⟩ := idx t
  have hp : (grid0.coords t 0).val < 19 := (grid0.coords t 0).isLt
  have hz0 : ((((cfg0.win 2).blk t).view.emb y) 0 : ℕ) = (y 0).val := by blk_simp [e2]
  have hz1 : ((((cfg0.win 2).blk t).view.emb y) 1 : ℕ) = (y 1).val := by blk_simp [e2]
  have hz2 : ((((cfg0.win 2).blk t).view.emb y) 2 : ℕ) = (grid0.coords t 0).val * 304 + (y 2).val := by blk_simp [e2]
  have hz3 : ((((cfg0.win 2).blk t).view.emb y) 3 : ℕ) = (y 3).val := by blk_simp [e2]
  generalize (((cfg0.win 2).blk t).view.emb y) = z at *
  rw [after0_2]
  unfold outsAt0
  frame_out
  rw [block_anchors]
  have hcell := fun (a : Fin 3) (ch : Fin 85) (r : Fin 4) (w : Fin 76) (b : Fin 32) (l : Fin 255)
      (hl : l.val = 85 * a.val + ch.val) =>
    decoded_block (m ((c : Thread nD τ).loc main_arg1)) (iblk m c 1 t) ⟨_, hp⟩ a ch r w b l hl
  have hraw := block_raw m c t
  obtain ⟨w00, w01, w10, w11, w20, w21⟩ := word (m ((c : Thread nD τ).loc main_arg1)) (by decide)
  rw [w00, w01, w10, w11, w20, w21]
  unfold k0_pay14 k0_pay13
  generalize k0_pay12 (BitVec.ofNat 32 (grid0.coords t 0).val) (k0_pay3 (iblk m c 1 t)) k0_pay4 (k0_pay8 k0_pay4) _
    (k0_pay10 k0_pay4) (k0_pay11 k0_pay4) = D at *
  clear w00 w01 w10 w11 w20 w21
  have hplace : ∀ (x : S32x1x304x85.Idx) (a : Fin 3) (l : Fin 255) (r : Fin 4) (w : Fin 76),
      (y 0).val = (x 0).val → (y 1).val = a.val → (y 2).val = (x 2).val → (y 3).val = (x 3).val →
      r.val = (x 2).val / 76 → w.val = (x 2).val % 76 → l.val = 85 * a.val + (x 3).val →
      D (ix4 r w (x 0) l)
        = boxes (m ((c : Thread nD τ).loc main_arg0)) (m ((c : Thread nD τ).loc main_arg1)) z := by
    intro x a l r w g0 g1 g2 g3 gr gw gl
    have hh : 4 * (grid0.coords t 0).val + r.val < 76 := by omega
    rw [hcell a (x 3) r w (x 0) l gl, hraw r w (x 0) l ⟨_, hh⟩ rfl]
    exact (boxes_apply _ _ z (x 0) a ⟨_, hh⟩ w (x 3) l (hz0.trans g0) (hz1.trans g1)
      (by rw [hz2]; show _ = 76 * (4 * (grid0.coords t 0).val + r.val) + w.val; omega) (hz3.trans g3) gl).symm
  canon_tiles x hx
  all_goals pointwise [k0_pay1, k0_pay2]
  · exact hplace x 2 _ _ _ hx0 (hx1.trans (by omega)) hx2 hx3 rfl rfl rfl
  · exact hplace x 1 _ _ _ hx0 (hx1.trans (by omega)) hx2 hx3 rfl rfl rfl
  · exact hplace x 0 _ _ _ hx0 (hx1.trans (by omega)) hx2 hx3 rfl rfl (by simp)

end Cert.Proof.Array

end
-- ==== Proof.Run.lean ====
/- Hand-written, untrusted: THE KERNEL PROGRAM'S RUN, with the result read as a function of the arguments. The pipeline
   leaves the decoded boxes by anchor and grid cell (`Array.result_array`); the program's last line lists the cells of the
   three anchors one after another, which is the array `decodedBoxes`. -/
module

public import proofs.«01_k».proof.Proof.Array
public import Idealize.ShloMosaic.Lib.Claim

@[expose] public section

noncomputable section

namespace Cert.Proof.Run

open Idealize.ShloMosaic Idealize.ShloMosaic.TcCoe Idealize.SL.Sem Cert.KernelIdeal Cert.KernelIdeal.Gen Cert.Proof.Scalars Cert.Proof.Array

/-- THE RESULT: the decoded boxes at batch member, box number (anchor times 5776 plus grid cell) and channel. -/
def decodedBoxes (X : FVec Ideal S32x255x76x76 .f32) (A : FVec Ideal S3x2 .f32) : FVec Ideal S32x17328x85 .f32 :=
  shapeCast S32x17328x85 (boxes X A) shapeCasts_S32x3x5776x85_S32x17328x85

/-- The result at an index, given the anchor, the row, the column and the channel that the box number stands for. -/
theorem decodedBoxes_apply (X : FVec Ideal S32x255x76x76 .f32) (A : FVec Ideal S3x2 .f32) (j : S32x17328x85.Idx)
    (a : Fin 3) (h w : Fin 76) (l : Fin 255) (h1 : (j 1).val = 5776 * a.val + 76 * h.val + w.val)
    (hl : l.val = 85 * a.val + (j 2).val) :
    decodedBoxes X A j = decoded (j 2).val w.val h.val (X (ix4 (j 0) l h w)) (A (ix2 a 0)) (A (ix2 a 1)) := by
  unfold decodedBoxes
  pointwise
  refine boxes_apply X A _ (j 0) a h w (j 2) l rfl ?_ ?_ rfl hl
  · show (j 1).val / 5776 = a.val
    omega
  · show (j 1).val % 5776 = 76 * h.val + w.val
    omega

variable (m : (ℓ : Loc nD τ sig) → Buf (Elt Ideal) ℓ) (ρ : Dev nD → PrngReg)

/-- What the lines after the pipeline leave in the result buffer: the decoded boxes of the arguments. -/
theorem result_buffer (c : Dev nD) :
    Pipeline.afterTail₀ cfgs (dats m) 0 (V0 m) [hostOps1] c main_v2
      = decodedBoxes (m ((c : Thread nD τ).loc main_arg0)) (m ((c : Thread nD τ).loc main_arg1)) := by
  have harr := Pipeline.withArrays_arr spec0 launch0.win.arr_inj c (V0 m c) (fun w => (dats m 0 c).arrAt w (cfgs 0).N) 2
  unfold Pipeline.afterTail₀ decodedBoxes
  rw [← result_array m c]
  simp only [hostOps1, List.flatten_cons, List.flatten_nil, List.append_nil]
  after_results_simp
  exact congrArg (fun f => shapeCast S32x17328x85 f shapeCasts_S32x3x5776x85_S32x17328x85) harr

/-- Every run of the kernel program ends with the decoded boxes of the arguments in the result buffer and the arguments
    unchanged. -/
theorem run : θ_run defs (onTc (τ := τ) (main (F := Ideal))) ⟨m, fun _ => 0, ρ⟩ fun r => ∀ c : Dev nD,
      r.2.mem ((c.tc : Thread nD τ).loc main_v2)
        = decodedBoxes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h.1 c).2 main_v2 (Pipeline.mem_restRefs_of main_v2 (by decide) (by decide))).trans (result_buffer m c), h.2 c⟩)
    (θ_run_and (run_main m ρ) (unchanged m ρ))

end Cert.Proof.Run

end
-- ==== Proof.Ref.lean ====
/- Hand-written, untrusted: THE REFERENCE'S RESULT AT AN INDEX. The reference's composed term is cut into its named parts
   (`raw`, `channel`, `squash`, the four box coordinates, the confidence, the classes), each part is read at an index, and
   the two concatenations are then read piece by piece: at every batch member, box and channel the reference's result is
   `Scalars.decoded` of the same raw prediction and anchor that the kernel's is. -/
module

public import proofs.«01_k».proof.Proof.Gen.ReferenceIdeal.Run
public import proofs.«01_k».proof.Proof.Lanes
public import Idealize.ShloMosaic.Lib.Pointwise

@[expose] public section

set_option maxRecDepth 16384

noncomputable section

namespace Cert.Proof.Ref

open Idealize.ShloMosaic Idealize.ShloMosaic.TcCoe Idealize.SL.Sem Cert.ReferenceIdeal Cert.ReferenceIdeal.Gen Cert.ReferenceIdeal.Value Cert.Proof.Scalars

/-! ### The parts of the reference's term -/

/-- The raw predictions, by batch member, anchor, row, column and channel. -/
def raw (X : FVec Ideal S32x255x76x76 .f32) : FVec Ideal S32x3x76x76x85 .f32 :=
  transpose S32x3x76x76x85 [0, 1, 3, 4, 2] (shapeCast S32x3x85x76x76 X shapeCasts_S32x255x76x76_S32x3x85x76x76)
    transposes_S32x3x85x76x76_S32x3x76x76x85_0_1_3_4_2

/-- One channel of the raw predictions. -/
def channel (X : FVec Ideal S32x255x76x76 .f32) (k : ℕ) (hk : S32x3x76x76x85.Slices ![0, 0, 0, 0, k] S32x3x76x76x1) :
    FVec Ideal S32x3x76x76 .f32 :=
  shapeCast S32x3x76x76 (extractStridedSlice S32x3x76x76x1 ![0, 0, 0, 0, k] (raw X) hk) shapeCasts_S32x3x76x76x1_S32x3x76x76

/-- A number at every batch member, anchor, row and column. -/
def everywhere (x : BitVec 32) : FVec Ideal S32x3x76x76 .f32 :=
  broadcastInDim S32x3x76x76 ![] bcast_S_S32x3x76x76 (constant S_ .f32 x)

/-- The sigmoid of one channel, as the reference spells it. -/
def squash (f : FVec Ideal S32x3x76x76 .f32) : FVec Ideal S32x3x76x76 .f32 :=
  Host.divf (everywhere 0x3F800000#32) (addf (everywhere 0x3F800000#32) (Host.exp (Host.negf f)))

/-- The column number, as a float, at every place. -/
def columns : FVec Ideal S32x3x76x76 .f32 :=
  broadcastInDim S32x3x76x76 ![0, 1, 2, 3] bcast_S1x1x1x76_S32x3x76x76_0_1_2_3
    (broadcastInDim S1x1x1x76 ![3] bcast_S76_S1x1x1x76_3 (sitofp .f32 (iotaInDim S76 32 0)))

/-- The row number, as a float, at every place. -/
def rows : FVec Ideal S32x3x76x76 .f32 :=
  broadcastInDim S32x3x76x76 ![0, 1, 2, 3] bcast_S1x1x76x1_S32x3x76x76_0_1_2_3
    (broadcastInDim S1x1x76x1 ![2, 3] bcast_S76x1_S1x1x76x1_2_3
      (broadcastInDim S76x1 ![0] bcast_S76_S76x1_0 (sitofp .f32 (iotaInDim S76 32 0))))

/-- One side of the anchors, at every place. -/
def side (A : FVec Ideal S3x2 .f32) (k : ℕ) (hk : S3x2.Slices ![0, k] S3x1) : FVec Ideal S32x3x76x76 .f32 :=
  broadcastInDim S32x3x76x76 ![0, 1, 2, 3] bcast_S1x3x1x1_S32x3x76x76_0_1_2_3
    (broadcastInDim S1x3x1x1 ![1] bcast_S3_S1x3x1x1_1 (shapeCast S3 (extractStridedSlice S3x1 ![0, k] A hk) shapeCasts_S3x1_S3))

/-- A centre coordinate: a grid coordinate plus the sigmoid of a channel, over the grid's side. -/
def centre (g f : FVec Ideal S32x3x76x76 .f32) : FVec Ideal S32x3x76x76 .f32 :=
  Host.divf (addf g (squash f)) (everywhere 0x42980000#32)

/-- An extent: the exponential of a channel times a side of the anchor, over the network input's side. -/
def extent (s f : FVec Ideal S32x3x76x76 .f32) : FVec Ideal S32x3x76x76 .f32 :=
  Host.divf (mulf (Host.exp f) s) (everywhere 0x44180000#32)

/-- A coordinate as a one-channel array. -/
def lane (f : FVec Ideal S32x3x76x76 .f32) : FVec Ideal S32x3x76x76x1 .f32 :=
  broadcastInDim S32x3x76x76x1 ![0, 1, 2, 3] bcast_S32x3x76x76_S32x3x76x76x1_0_1_2_3 f

/-- The four coordinates of every box. -/
def coords (X : FVec Ideal S32x255x76x76 .f32) (A : FVec Ideal S3x2 .f32) : FVec Ideal S32x3x76x76x4 .f32 :=
  concatenate S32x3x76x76x4 4
    [⟨S32x3x76x76x1, lane (centre columns (channel X 0 slices_S32x3x76x76x85_S32x3x76x76x1_0_0_0_0_0))⟩,
     ⟨S32x3x76x76x1, lane (centre rows (channel X 1 slices_S32x3x76x76x85_S32x3x76x76x1_0_0_0_0_1))⟩,
     ⟨S32x3x76x76x1, lane (extent (side A 0 slices_S3x2_S3x1_0_0) (channel X 2 slices_S32x3x76x76x85_S32x3x76x76x1_0_0_0_0_2))⟩,
     ⟨S32x3x76x76x1, lane (extent (side A 1 slices_S3x2_S3x1_0_1) (channel X 3 slices_S32x3x76x76x85_S32x3x76x76x1_0_0_0_0_3))⟩]
    concatenates_S32x3x76x76x1_S32x3x76x76x1_S32x3x76x76x1_S32x3x76x76x1_S32x3x76x76x4_d4

/-- The class scores of every box. -/
def classes (X : FVec Ideal S32x255x76x76 .f32) : FVec Ideal S32x3x76x76x80 .f32 :=
  Host.divf (broadcastInDim S32x3x76x76x80 ![] bcast_S_S32x3x76x76x80 (constant S_ .f32 0x3F800000#32))
    (addf (broadcastInDim S32x3x76x76x80 ![] bcast_S_S32x3x76x76x80 (constant S_ .f32 0x3F800000#32))
      (Host.exp (Host.negf
        (extractStridedSlice S32x3x76x76x80 ![0, 0, 0, 0, 5] (raw X) slices_S32x3x76x76x85_S32x3x76x76x80_0_0_0_0_5))))

/-- The reference's result of the two arguments. -/
def refBoxes (X : FVec Ideal S32x255x76x76 .f32) (A : FVec Ideal S3x2 .f32) : FVec Ideal S32x17328x85 .f32 :=
  concatenate S32x17328x85 2
    [⟨S32x17328x4, shapeCast S32x17328x4 (coords X A) shapeCasts_S32x3x76x76x4_S32x17328x4⟩,
     ⟨S32x17328x1, shapeCast S32x17328x1 (squash (channel X 4 slices_S32x3x76x76x85_S32x3x76x76x1_0_0_0_0_4)) shapeCasts_S32x3x76x76_S32x17328x1⟩,
     ⟨S32x17328x80, shapeCast S32x17328x80 (classes X) shapeCasts_S32x3x76x76x80_S32x17328x80⟩]
    concatenates_S32x17328x4_S32x17328x1_S32x17328x80_S32x17328x85_d2

/-- The reference's composed term is the parts put together. -/
theorem res_eq (m : (ℓ : Loc nD τ sig) → Buf (Elt Ideal) ℓ) (c : Dev nD) :
    res_main_v74 m c = refBoxes (m ((c.tc : Thread nD τ).loc main_arg0)) (m ((c.tc : Thread nD τ).loc main_arg1)) := rfl

/-! ### The parts at an index -/

/-- The raw prediction at an index: the argument at channel `85·anchor + channel`. -/
theorem raw_apply (X : FVec Ideal S32x255x76x76 .f32) (i : S32x3x76x76x85.Idx) (l : Fin 255)
    (hl : l.val = 85 * (i 1).val + (i 4).val) : raw X i = X (ix4 (i 0) l (i 2) (i 3)) := by
  unfold raw
  pointwise
  exact congrArg (fun t => X (ix4 (i 0) t (i 2) (i 3))) (Fin.ext (by show (i 1).val * 85 + (i 4).val = l.val; omega))

/-- One channel at an index. -/
theorem channel_apply (X : FVec Ideal S32x255x76x76 .f32) (k : ℕ) (hk : S32x3x76x76x85.Slices ![0, 0, 0, 0, k] S32x3x76x76x1)
    (i : S32x3x76x76.Idx) (l : Fin 255) (hl : l.val = 85 * (i 1).val + k) :
    channel X k hk i = X (ix4 (i 0) l (i 2) (i 3)) := by
  unfold channel
  pointwise
  exact raw_apply X _ l hl

/-- The reference's spelling of the sigmoid is the sigmoid. -/
theorem squash_apply (f : FVec Ideal S32x3x76x76 .f32) (i : S32x3x76x76.Idx) : squash f i = sigmoid (f i) := by
  unfold squash everywhere
  pointwise
  rfl

/-- The column number at an index. -/
theorem columns_apply (i : S32x3x76x76.Idx) : columns i = (((i 3).val : ℝ) : EReal) := by
  unfold columns
  pointwise
  exact Lanes.column_float (i 3)

/-- The row number at an index. -/
theorem rows_apply (i : S32x3x76x76.Idx) : rows i = (((i 2).val : ℝ) : EReal) := by
  unfold rows
  pointwise
  exact Lanes.column_float (i 2)

/-- The anchors' widths at an index. -/
theorem side_zero_apply (A : FVec Ideal S3x2 .f32) (i : S32x3x76x76.Idx) :
    side A 0 slices_S3x2_S3x1_0_0 i = A (ix2 (i 1) 0) := by
  unfold side
  pointwise

/-- The anchors' heights at an index. -/
theorem side_one_apply (A : FVec Ideal S3x2 .f32) (i : S32x3x76x76.Idx) :
    side A 1 slices_S3x2_S3x1_0_1 i = A (ix2 (i 1) 1) := by
  unfold side
  pointwise

/-- A centre coordinate at an index. -/
theorem centre_apply (g f : FVec Ideal S32x3x76x76 .f32) (i : S32x3x76x76.Idx) :
    centre g f i = (g i + sigmoid (f i)) * (((76 : ℝ)⁻¹ : ℝ) : EReal) := by
  rw [← squash_apply, ← div_grid, ← lit_grid]
  rfl

/-- An extent at an index. -/
theorem extent_apply (s f : FVec Ideal S32x3x76x76 .f32) (i : S32x3x76x76.Idx) :
    extent s f i = Ideal.exp (f i) * s i * (((608 : ℝ)⁻¹ : ℝ) : EReal) := by
  rw [← div_net, ← lit_net]
  rfl

/-- The four coordinates at an index. -/
theorem coords_apply (X : FVec Ideal S32x255x76x76 .f32) (A : FVec Ideal S3x2 .f32) (i : S32x3x76x76x4.Idx) (l : Fin 255)
    (hl : l.val = 85 * (i 1).val + (i 4).val) :
    coords X A i
      = decoded (i 4).val (i 3).val (i 2).val (X (ix4 (i 0) l (i 2) (i 3))) (A (ix2 (i 1) 0)) (A (ix2 (i 1) 1)) := by
  have h4 : (i 4).val < 4 := (i 4).isLt
  unfold coords lane decoded
  pointwise
  by_cases h0 : (i 4).val = 0
  · rw [dif_pos (by omega), if_pos h0, centre_apply, columns_apply, channel_apply X 0 _ _ l (by rw [hl, h0]; rfl)]
    rfl
  rw [dif_neg (by omega), if_neg h0]
  by_cases h1 : (i 4).val = 1
  · rw [dif_pos (by omega), if_pos h1, centre_apply, rows_apply, channel_apply X 1 _ _ l (by rw [hl, h1]; rfl)]
    rfl
  rw [dif_neg (by omega), if_neg h1]
  by_cases h2 : (i 4).val = 2
  · rw [dif_pos (by omega), if_pos h2, extent_apply, side_zero_apply, channel_apply X 2 _ _ l (by rw [hl, h2]; rfl)]
    rfl
  have h3 : (i 4).val = 3 := by omega
  rw [dif_neg (by omega), if_neg h2, if_pos h3, extent_apply, side_one_apply, channel_apply X 3 _ _ l (by rw [hl, h3]; rfl)]
  rfl

/-- A class score at an index: the sigmoid of the raw prediction five channels further on. -/
theorem classes_apply (X : FVec Ideal S32x255x76x76 .f32) (i : S32x3x76x76x80.Idx) (l : Fin 255)
    (hl : l.val = 85 * (i 1).val + (5 + (i 4).val)) : classes X i = sigmoid (X (ix4 (i 0) l (i 2) (i 3))) := by
  unfold classes
  pointwise
  rw [raw_apply X _ l hl]
  rfl

/-- The reference's result at an index, given the anchor, the row, the column and the channel of the argument that the box
    number and the channel stand for. -/
theorem refBoxes_apply (X : FVec Ideal S32x255x76x76 .f32) (A : FVec Ideal S3x2 .f32) (j : S32x17328x85.Idx)
    (a : Fin 3) (h w : Fin 76) (l : Fin 255) (h1 : (j 1).val = 5776 * a.val + 76 * h.val + w.val)
    (hl : l.val = 85 * a.val + (j 2).val) :
    refBoxes X A j = decoded (j 2).val w.val h.val (X (ix4 (j 0) l h w)) (A (ix2 a 0)) (A (ix2 a 1)) := by
  unfold refBoxes
  pointwise
  have hc : (j 2).val < 85 := (j 2).isLt
  have ea (p : (j 1).val / 5776 < 3) : (⟨(j 1).val / 5776, p⟩ : Fin 3) = a := Fin.ext (by show (j 1).val / 5776 = a.val; omega)
  have eh (p : (j 1).val / 76 % 76 < 76) : (⟨(j 1).val / 76 % 76, p⟩ : Fin 76) = h :=
    Fin.ext (by show (j 1).val / 76 % 76 = h.val; omega)
  have ew (p : (j 1).val % 76 < 76) : (⟨(j 1).val % 76, p⟩ : Fin 76) = w := Fin.ext (by show (j 1).val % 76 = w.val; omega)
  simp only [ea, eh, ew]
  by_cases h4 : (j 2).val < 4
  · rw [dif_pos h4]
    exact coords_apply X A _ l hl
  have hd : decoded (j 2).val w.val h.val (X (ix4 (j 0) l h w)) (A (ix2 a 0)) (A (ix2 a 1)) = sigmoid (X (ix4 (j 0) l h w)) := by
    rw [decoded, if_neg (by omega), if_neg (by omega), if_neg (by omega), if_neg (by omega)]
  rw [dif_neg h4, hd]
  by_cases h5 : (j 2).val = 4
  · rw [dif_pos (by omega), squash_apply, channel_apply X 4 _ _ l (by rw [hl, h5]; rfl)]
    rfl
  · rw [dif_neg (by omega)]
    exact classes_apply X _ l (by show l.val = 85 * a.val + (5 + ((j 2).val - 4 - 1)); omega)

end Cert.Proof.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference's result and the kernel's are the same function of the two arguments. -/
theorem results_agree (X : FVec Ideal Cert.KernelIdeal.S32x255x76x76 .f32) (A : FVec Ideal Cert.KernelIdeal.S3x2 .f32) :
    Ref.refBoxes X A = Run.decodedBoxes X A := by
  funext j
  have hn : (j 1).val < 17328 := (j 1).isLt
  have hc : (j 2).val < 85 := (j 2).isLt
  have h1 : (j 1).val = 5776 * ((j 1).val / 5776) + 76 * ((j 1).val % 5776 / 76) + (j 1).val % 76 := by omega
  have ha : (j 1).val / 5776 < 3 := by omega
  have hh : (j 1).val % 5776 / 76 < 76 := by omega
  have hw : (j 1).val % 76 < 76 := by omega
  have hl : 85 * ((j 1).val / 5776) + (j 2).val < 255 := by omega
  exact (Ref.refBoxes_apply X A j ⟨_, ha⟩ ⟨_, hh⟩ ⟨_, hw⟩ ⟨_, hl⟩ h1 rfl).trans
    (Run.decodedBoxes_apply X A j ⟨_, ha⟩ ⟨_, hh⟩ ⟨_, hw⟩ ⟨_, hl⟩ h1 rfl).symm

/-- The kernel program runs to the end, leaves its arguments and its counters at zero. -/
theorem kernel_frame : Cert.quiescent_Kernel := fun m ρ _ => Cert.Kernel.Gen.frame m ρ

/-- So does the idealized kernel program. -/
theorem ideal_frame : Cert.quiescent_KernelIdeal := fun m ρ _ => Cert.KernelIdeal.Gen.frame m ρ

/-- So does the reference. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Naming the kernel's two constants: `inv_net` stands for one over 608 and `inv_grid` for one over 76, wherever they occur. -/
theorem constants : Cert.preserves_Kernel_KernelIdeal :=
  ⟨IdealRules.named_const.statement Cert.KernelIdeal.κ "inv_net" .f32 0x3AD79436#32 (((608 : ℝ)⁻¹ : ℝ) : EReal) rfl,
   IdealRules.named_const.statement Cert.KernelIdeal.κ "inv_grid" .f32 0x3C579436#32 (((76 : ℝ)⁻¹ : ℝ) : EReal) rfl⟩

/-- In exact arithmetic the kernel and the reference leave the same result. -/
theorem same_result : Cert.algebraic_KernelIdeal_ReferenceIdeal := by
  intro m ρ m' ρ' _ hagree
  refine ⟨_, Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1⟩ := hagree c
  exact (Ref.res_eq m' c).trans ((congrArg₂ Ref.refBoxes e0 e1).trans (results_agree _ _))

/-- The certificate's claim. -/
theorem claim : Cert.Claim :=
  ⟨Cert.Kernel.Gen.facts, Cert.KernelIdeal.Gen.facts, Cert.ReferenceIdeal.Gen.facts,
    kernel_frame, ideal_frame, reference_frame, constants, same_result⟩

end Cert.Proof

end
